-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_zero_by_zero [hPre_finite_no_zero_by_zero : Cert.Pre_finite_no_zero_by_zero.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_zero_by_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_zero_by_zero [hPre_finite_no_zero_by_zero : Cert.Pre_finite_no_zero_by_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_zero_by_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_no_zero_by_zero [hKernelIdeal : Cert.KernelIdeal.Facts] [hPre_finite_no_zero_by_zero : Cert.Pre_finite_no_zero_by_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_zero_by_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_no_zero_by_zero [hReferenceIdeal : Cert.ReferenceIdeal.Facts] [hPre_finite_no_zero_by_zero : Cert.Pre_finite_no_zero_by_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_zero_by_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_no_zero_by_zero [hKernelIdeal : Cert.KernelIdeal.Facts] [hReferenceIdeal : Cert.ReferenceIdeal.Facts] [hPre_finite_no_zero_by_zero : Cert.Pre_finite_no_zero_by_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_zero_by_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_no_zero_by_zero : Cert.Pre_finite_no_zero_by_zero.Facts),
    quiescent_Kernel (hKernel := hKernel)
    ∧ quiescent_KernelIdeal (hKernelIdeal := hKernelIdeal)
    ∧ quiescent_KernelIdeal_pre_finite_no_zero_by_zero (hKernelIdeal := hKernelIdeal) (hPre_finite_no_zero_by_zero := hPre_finite_no_zero_by_zero)
    ∧ quiescent_ReferenceIdeal (hReferenceIdeal := hReferenceIdeal)
    ∧ quiescent_ReferenceIdeal_pre_finite_no_zero_by_zero (hReferenceIdeal := hReferenceIdeal) (hPre_finite_no_zero_by_zero := hPre_finite_no_zero_by_zero)
    ∧ preserves_Kernel_KernelIdeal
    ∧ algebraic_KernelIdeal_ReferenceIdeal_pre_finite_no_zero_by_zero (hKernelIdeal := hKernelIdeal) (hReferenceIdeal := hReferenceIdeal) (hPre_finite_no_zero_by_zero := hPre_finite_no_zero_by_zero)
-- ==== Pre_finite_no_zero_by_zero.lean ====
abbrev S16x257x8000 : Shape := ⟨3, ![16, 257, 8000]⟩
abbrev S1 : Shape := ⟨1, ![1]⟩
abbrev S_ : Shape := ⟨0, ![]⟩
abbrev S16x8000 : Shape := ⟨2, ![16, 8000]⟩
abbrev S16x1 : Shape := ⟨2, ![16, 1]⟩
abbrev S16x8001 : Shape := ⟨2, ![16, 8001]⟩
abbrev S8000 : Shape := ⟨1, ![8000]⟩
abbrev S8000x1 : Shape := ⟨2, ![8000, 1]⟩
abbrev S1x8000 : Shape := ⟨2, ![1, 8000]⟩
abbrev S1x1 : Shape := ⟨2, ![1, 1]⟩
abbrev S16x1x8000 : Shape := ⟨3, ![16, 1, 8000]⟩

class Facts : Prop where
  reducesTo_S16x257x8000_S16x8000_d1 : S16x257x8000.ReducesTo [1] S16x8000
  h_S_ : 0 < S_.numel
  bcast_S_S16x1 : S_.BroadcastsInDim S16x1 (![] : Fin 0 → Fin S16x1.rank)
  bcast_S_S_ : S_.BroadcastsInDim S_ (![] : Fin 0 → Fin S_.rank)
  reduceWindows_S16x8000_S16x8000_w1s1p0_0_w8000s1p7999_0 : S16x8000.ReduceWindows (![1, 8000] : Fin 2 → Nat) ![1, 1] ![0, 7999] ![0, 0] S16x8000
  concatenates_S16x1_S16x8000_S16x8001_d1 : Shape.Concatenates [S16x1, S16x8000] S16x8001 1
  bcast_S_S8000 : S_.BroadcastsInDim S8000 (![] : Fin 0 → Fin S8000.rank)
  bcast_S8000_S8000x1_0 : S8000.BroadcastsInDim S8000x1 (![0] : Fin 1 → Fin S8000x1.rank)
  bcast_S8000_S1x8000_1 : S8000.BroadcastsInDim S1x8000 (![1] : Fin 1 → Fin S1x8000.rank)
  bcast_S1x8000_S16x8000_0_1 : S1x8000.BroadcastsInDim S16x8000 (![0, 1] : Fin 2 → Fin S16x8000.rank)
  bcast_S1_S1x1_1 : S1.BroadcastsInDim S1x1 (![1] : Fin 1 → Fin S1x1.rank)
  bcast_S1x1_S16x8000_0_1 : S1x1.BroadcastsInDim S16x8000 (![0, 1] : Fin 2 → Fin S16x8000.rank)
  bcast_S16x8000_S16x1x8000_0_2 : S16x8000.BroadcastsInDim S16x1x8000 (![0, 2] : Fin 2 → Fin S16x1x8000.rank)
  bcast_S_S16x1x8000 : S_.BroadcastsInDim S16x1x8000 (![] : Fin 0 → Fin S16x1x8000.rank)
  bcast_S16x1x8000_S16x257x8000_0_1_2 : S16x1x8000.BroadcastsInDim S16x257x8000 (![0, 1, 2] : Fin 3 → Fin S16x257x8000.rank)
  bcast_S_S16x257x8000 : S_.BroadcastsInDim S16x257x8000 (![] : Fin 0 → Fin S16x257x8000.rank)
  gather_S16x8001_S8000x1_S16x8000_0_1_n_n_1_1_161_wf : GatherDims.WF S16x8001 S8000x1 S16x8000 [0] [1] [] [1] [] 1 ![16, 1]

variable [Facts]

def gather_S16x8001_S8000x1_S16x8000_0_1_n_n_1_1_161 : GatherDims S16x8001 S8000x1 S16x8000 where
  offsetDims := [0]
  collapsedSliceDims := [1]
  operandBatchingDims := []
  startIndicesBatchingDims := []
  startIndexMap := [1]
  indexVectorDim := 1
  sliceSizes := ![16, 1]
  wf := gather_S16x8001_S8000x1_S16x8000_0_1_n_n_1_1_161_wf
def fn_cumsum_0 {F : FTy → Type} [FloatOps F] (arg0 : FVec F S16x8000 .f32) : FVec F S16x8000 .f32 :=
  let cst : FVec F S_ .f32 := constant S_ .f32 0x00000000#32
  let v0 : FVec F S_ .f32 := broadcastInDim S_ ![] bcast_S_S_ cst
  let v1 : FVec F S16x8000 .f32 := (fun x v => Host.reduceWindowAdd ![1, 8000] ![1, 1] ![0, 7999] ![0, 0] x v reduceWindows_S16x8000_S16x8000_w1s1p0_0_w8000s1p7999_0 h_S_) arg0 v0
  v1

def fn_cumsum {F : FTy → Type} [FloatOps F] (arg0 : FVec F S16x8000 .f32) : FVec F S16x8000 .f32 :=
  let v0 : FVec F S16x8000 .f32 := fn_cumsum_0 (F := F) arg0
  v0

def fn_part3 {F : FTy → Type} [FloatOps F] (main_v47 : IVec S16x257x8000 1) (main_v49 : IVec S16x257x8000 1) (main_v54 : IVec S16x257x8000 1) : IVec S16x257x8000 1 :=
  let main_v55 : IVec S16x257x8000 1 := ori main_v49 main_v54
  let main_v56 : IVec S16x257x8000 1 := andi main_v47 main_v55
  main_v56

def fn_part2 {F : FTy → Type} [FloatOps F] (main_arg0 : FVec F S16x257x8000 .f32) (main_arg1 : FVec F S1 .f32) (main_v33 : FVec F S16x8000 .f32) (main_v35 : FVec F S16x8000 .f32) : IVec S16x257x8000 1 :=
  let main_v36 : FVec F S16x8000 .f32 := Host.divf main_v33 main_v35
  let main_v37 : FVec F S1x1 .f32 := broadcastInDim S1x1 ![1] bcast_S1_S1x1_1 main_arg1
  let main_v38 : FVec F S16x8000 .f32 := broadcastInDim S16x8000 ![0, 1] bcast_S1x1_S16x8000_0_1 main_v37
  let main_v39 : FVec F S16x8000 .f32 := addf main_v36 main_v38
  let main_v40 : FVec F S16x1x8000 .f32 := broadcastInDim S16x1x8000 ![0, 2] bcast_S16x8000_S16x1x8000_0_2 main_v39
  let main_cst_10 : FVec F S_ .f32 := constant S_ .f32 0x322BCC77#32
  let main_v41 : FVec F S16x1x8000 .f32 := broadcastInDim S16x1x8000 ![] bcast_S_S16x1x8000 main_cst_10
  let main_v42 : FVec F S16x1x8000 .f32 := addf main_v40 main_v41
  let main_v43 : FVec F S16x257x8000 .f32 := broadcastInDim S16x257x8000 ![0, 1, 2] bcast_S16x1x8000_S16x257x8000_0_1_2 main_v42
  let main_v44 : FVec F S16x257x8000 .f32 := Host.divf main_arg0 main_v43
  let main_v45 : FVec F S16x257x8000 .f32 := Host.absf main_arg0
  let main_cst_11 : FVec F S_ .f32 := constant S_ .f32 0x7F800000#32
  let main_v46 : FVec F S16x257x8000 .f32 := broadcastInDim S16x257x8000 ![] bcast_S_S16x257x8000 main_cst_11
  let main_v47 : IVec S16x257x8000 1 := cmpf .olt main_v45 main_v46
  let main_cst_12 : FVec F S_ .f32 := constant S_ .f32 0x00000000#32
  let main_v48 : FVec F S16x257x8000 .f32 := broadcastInDim S16x257x8000 ![] bcast_S_S16x257x8000 main_cst_12
  let main_v49 : IVec S16x257x8000 1 := cmpf .une main_arg0 main_v48
  let main_cst_13 : FVec F S_ .f32 := constant S_ .f32 0x322BCC77#32
  let main_v50 : FVec F S16x1x8000 .f32 := broadcastInDim S16x1x8000 ![] bcast_S_S16x1x8000 main_cst_13
  let main_v51 : FVec F S16x1x8000 .f32 := addf main_v40 main_v50
  let main_cst_14 : FVec F S_ .f32 := constant S_ .f32 0x00000000#32
  let main_v52 : FVec F S16x1x8000 .f32 := broadcastInDim S16x1x8000 ![] bcast_S_S16x1x8000 main_cst_14
  let main_v53 : IVec S16x1x8000 1 := cmpf .une main_v51 main_v52
  let main_v54 : IVec S16x257x8000 1 := broadcastInDim S16x257x8000 ![0, 1, 2] bcast_S16x1x8000_S16x257x8000_0_1_2 main_v53
  fn_part3 (F := F) main_v47 main_v49 main_v54

def fn_part1 {F : FTy → Type} [FloatOps F] (main_arg0 : FVec F S16x257x8000 .f32) (main_arg1 : FVec F S1 .f32) (main_v3 : FVec F S16x8001 .f32) (main_v4 : IVec S8000 32) (main_v10 : IVec S8000 32) (main_v16 : FVec F S8000 .f32) : IVec S16x257x8000 1 :=
  let main_c_5 : IVec S_ 32 := constantI S_ 32 1#32
  let main_v17 : IVec S8000 32 := broadcastInDim S8000 ![] bcast_S_S8000 main_c_5
  let main_v18 : IVec S8000 32 := addi main_v4 main_v17
  let main_c_6 : IVec S_ 32 := constantI S_ 32 0#32
  let main_v19 : IVec S8000 32 := broadcastInDim S8000 ![] bcast_S_S8000 main_c_6
  let main_v20 : IVec S8000 1 := cmpi .slt main_v18 main_v19
  let main_c_7 : IVec S_ 32 := constantI S_ 32 8001#32
  let main_v21 : IVec S8000 32 := broadcastInDim S8000 ![] bcast_S_S8000 main_c_7
  let main_v22 : IVec S8000 32 := addi main_v18 main_v21
  let main_v23 : IVec S8000 32 := select main_v20 main_v22 main_v18
  let main_v24 : IVec S8000x1 32 := broadcastInDim S8000x1 ![0] bcast_S8000_S8000x1_0 main_v23
  let main_v25 : FVec F S16x8000 .f32 := (fun x i => Host.gather gather_S16x8001_S8000x1_S16x8000_0_1_n_n_1_1_161 x i) main_v3 main_v24
  let main_c_8 : IVec S_ 32 := constantI S_ 32 0#32
  let main_v26 : IVec S8000 32 := broadcastInDim S8000 ![] bcast_S_S8000 main_c_8
  let main_v27 : IVec S8000 1 := cmpi .slt main_v10 main_v26
  let main_c_9 : IVec S_ 32 := constantI S_ 32 8001#32
  let main_v28 : IVec S8000 32 := broadcastInDim S8000 ![] bcast_S_S8000 main_c_9
  let main_v29 : IVec S8000 32 := addi main_v10 main_v28
  let main_v30 : IVec S8000 32 := select main_v27 main_v29 main_v10
  let main_v31 : IVec S8000x1 32 := broadcastInDim S8000x1 ![0] bcast_S8000_S8000x1_0 main_v30
  let main_v32 : FVec F S16x8000 .f32 := (fun x i => Host.gather gather_S16x8001_S8000x1_S16x8000_0_1_n_n_1_1_161 x i) main_v3 main_v31
  let main_v33 : FVec F S16x8000 .f32 := subf main_v25 main_v32
  let main_v34 : FVec F S1x8000 .f32 := broadcastInDim S1x8000 ![1] bcast_S8000_S1x8000_1 main_v16
  let main_v35 : FVec F S16x8000 .f32 := broadcastInDim S16x8000 ![0, 1] bcast_S1x8000_S16x8000_0_1 main_v34
  fn_part2 (F := F) main_arg0 main_arg1 main_v33 main_v35

def fn {F : FTy → Type} [FloatOps F] (main_arg0 : FVec F S16x257x8000 .f32) (main_arg1 : FVec F S1 .f32) : IVec S16x257x8000 1 :=
  let main_cst : FVec F S_ .f32 := constant S_ .f32 0x00000000#32
  let main_v0 : FVec F S16x8000 .f32 := (fun x v => Host.reduceAdd x v reducesTo_S16x257x8000_S16x8000_d1 h_S_) main_arg0 main_cst
  let main_cst_0 : FVec F S_ .f32 := constant S_ .f32 0x00000000#32
  let main_v1 : FVec F S16x1 .f32 := broadcastInDim S16x1 ![] bcast_S_S16x1 main_cst_0
  let main_v2 : FVec F S16x8000 .f32 := fn_cumsum (F := F) main_v0
  let main_v3 : FVec F S16x8001 .f32 := (fun a b => concatenate S16x8001 1 [⟨S16x1, a⟩, ⟨S16x8000, b⟩] concatenates_S16x1_S16x8000_S16x8001_d1) main_v1 main_v2
  let main_v4 : IVec S8000 32 := iotaInDim S8000 32 0
  let main_c : IVec S_ 32 := constantI S_ 32 20#32
  let main_v5 : IVec S8000 32 := broadcastInDim S8000 ![] bcast_S_S8000 main_c
  let main_v6 : IVec S8000 32 := subi main_v4 main_v5
  let main_c_1 : IVec S_ 32 := constantI S_ 32 1#32
  let main_v7 : IVec S8000 32 := broadcastInDim S8000 ![] bcast_S_S8000 main_c_1
  let main_v8 : IVec S8000 32 := addi main_v6 main_v7
  let main_c_2 : IVec S_ 32 := constantI S_ 32 0#32
  let main_v9 : IVec S8000 32 := broadcastInDim S8000 ![] bcast_S_S8000 main_c_2
  let main_v10 : IVec S8000 32 := maxsi main_v9 main_v8
  let main_v11 : IVec S8000 32 := subi main_v4 main_v10
  let main_c_3 : IVec S_ 32 := constantI S_ 32 1#32
  let main_v12 : IVec S8000 32 := broadcastInDim S8000 ![] bcast_S_S8000 main_c_3
  let main_v13 : IVec S8000 32 := addi main_v11 main_v12
  let main_c_4 : IVec S_ 32 := constantI S_ 32 257#32
  let main_v14 : IVec S8000 32 := broadcastInDim S8000 ![] bcast_S_S8000 main_c_4
  let main_v15 : IVec S8000 32 := muli main_v13 main_v14
  let main_v16 : FVec F S8000 .f32 := sitofp .f32 main_v15
  fn_part1 (F := F) main_arg0 main_arg1 main_v3 main_v4 main_v10 main_v16
-- ==== Kernel.lean ====
abbrev S16x257x8000 : Shape := ⟨3, ![16, 257, 8000]⟩
abbrev S1 : Shape := ⟨1, ![1]⟩
abbrev S1x1 : Shape := ⟨2, ![1, 1]⟩
abbrev S16x1x8000 : Shape := ⟨3, ![16, 1, 8000]⟩
abbrev S1x257x8000 : Shape := ⟨3, ![1, 257, 8000]⟩
abbrev S1x1x8000 : Shape := ⟨3, ![1, 1, 8000]⟩
abbrev S257x8000 : Shape := ⟨2, ![257, 8000]⟩
abbrev S8000 : Shape := ⟨1, ![8000]⟩
abbrev S1x8000 : Shape := ⟨2, ![1, 8000]⟩
abbrev S1x7999 : Shape := ⟨2, ![1, 7999]⟩
abbrev S1x2 : Shape := ⟨2, ![1, 2]⟩
abbrev S1x7998 : Shape := ⟨2, ![1, 7998]⟩
abbrev S1x3 : Shape := ⟨2, ![1, 3]⟩
abbrev S1x7997 : Shape := ⟨2, ![1, 7997]⟩
abbrev S1x4 : Shape := ⟨2, ![1, 4]⟩
abbrev S1x7996 : Shape := ⟨2, ![1, 7996]⟩
abbrev S1x5 : Shape := ⟨2, ![1, 5]⟩
abbrev S1x7995 : Shape := ⟨2, ![1, 7995]⟩
abbrev S1x6 : Shape := ⟨2, ![1, 6]⟩
abbrev S1x7994 : Shape := ⟨2, ![1, 7994]⟩
abbrev S1x7 : Shape := ⟨2, ![1, 7]⟩
abbrev S1x7993 : Shape := ⟨2, ![1, 7993]⟩
abbrev S1x8 : Shape := ⟨2, ![1, 8]⟩
abbrev S1x7992 : Shape := ⟨2, ![1, 7992]⟩
abbrev S1x9 : Shape := ⟨2, ![1, 9]⟩
abbrev S1x7991 : Shape := ⟨2, ![1, 7991]⟩
abbrev S1x10 : Shape := ⟨2, ![1, 10]⟩
abbrev S1x7990 : Shape := ⟨2, ![1, 7990]⟩
abbrev S1x11 : Shape := ⟨2, ![1, 11]⟩
abbrev S1x7989 : Shape := ⟨2, ![1, 7989]⟩
abbrev S1x12 : Shape := ⟨2, ![1, 12]⟩
abbrev S1x7988 : Shape := ⟨2, ![1, 7988]⟩
abbrev S1x13 : Shape := ⟨2, ![1, 13]⟩
abbrev S1x7987 : Shape := ⟨2, ![1, 7987]⟩
abbrev S1x14 : Shape := ⟨2, ![1, 14]⟩
abbrev S1x7986 : Shape := ⟨2, ![1, 7986]⟩
abbrev S1x15 : Shape := ⟨2, ![1, 15]⟩
abbrev S1x7985 : Shape := ⟨2, ![1, 7985]⟩
abbrev S1x16 : Shape := ⟨2, ![1, 16]⟩
abbrev S1x7984 : Shape := ⟨2, ![1, 7984]⟩
abbrev S1x17 : Shape := ⟨2, ![1, 17]⟩
abbrev S1x7983 : Shape := ⟨2, ![1, 7983]⟩
abbrev S1x18 : Shape := ⟨2, ![1, 18]⟩
abbrev S1x7982 : Shape := ⟨2, ![1, 7982]⟩
abbrev S1x19 : Shape := ⟨2, ![1, 19]⟩
abbrev S1x7981 : Shape := ⟨2, ![1, 7981]⟩

abbrev nBuf : Space → Nat
  | .hbm => 5
  | .vmem => 7
  | .smem => 0
  | _ => 0

abbrev bufTy : (tb : Table) → Fin (tcTables nBuf tb) → BufTy
  | .hbm, ⟨0, _⟩ => ⟨S16x257x8000, .f32⟩
  | .hbm, ⟨1, _⟩ => ⟨S1, .f32⟩
  | .hbm, ⟨2, _⟩ => ⟨S1x1, .f32⟩
  | .hbm, ⟨3, _⟩ => ⟨S16x257x8000, .f32⟩
  | .hbm, ⟨4, _⟩ => ⟨S16x1x8000, .f32⟩
  | .local _ .vmem, ⟨0, _⟩ => ⟨S1x257x8000, .f32⟩
  | .local _ .vmem, ⟨1, _⟩ => ⟨S1x257x8000, .f32⟩
  | .local _ .vmem, ⟨2, _⟩ => ⟨S1x1, .f32⟩
  | .local _ .vmem, ⟨3, _⟩ => ⟨S1x257x8000, .f32⟩
  | .local _ .vmem, ⟨4, _⟩ => ⟨S1x257x8000, .f32⟩
  | .local _ .vmem, ⟨5, _⟩ => ⟨S1x1x8000, .f32⟩
  | .local _ .vmem, ⟨6, _⟩ => ⟨S1x1x8000, .f32⟩
  | _, _ => ⟨S16x257x8000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x257x8000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x257x8000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16x257x8000 : Shape := ⟨3, ![16, 257, 8000]⟩
abbrev S1 : Shape := ⟨1, ![1]⟩
abbrev S_ : Shape := ⟨0, ![]⟩
abbrev S16x8000 : Shape := ⟨2, ![16, 8000]⟩
abbrev S16x1 : Shape := ⟨2, ![16, 1]⟩
abbrev S16x8001 : Shape := ⟨2, ![16, 8001]⟩
abbrev S8000 : Shape := ⟨1, ![8000]⟩
abbrev S8000x1 : Shape := ⟨2, ![8000, 1]⟩
abbrev S1x8000 : Shape := ⟨2, ![1, 8000]⟩
abbrev S1x1 : Shape := ⟨2, ![1, 1]⟩
abbrev S16x1x8000 : Shape := ⟨3, ![16, 1, 8000]⟩

abbrev nBuf : Space → Nat
  | .hbm => 62
  | .vmem => 0
  | .smem => 0
  | _ => 0

abbrev bufTy : (tb : Table) → Fin (tcTables nBuf tb) → BufTy
  | .hbm, ⟨0, _⟩ => ⟨S16x257x8000, .f32⟩
  | .hbm, ⟨1, _⟩ => ⟨S1, .f32⟩
  | .hbm, ⟨2, _⟩ => ⟨S_, .f32⟩
  | .hbm, ⟨3, _⟩ => ⟨S16x8000, .f32⟩
  | .hbm, ⟨4, _⟩ => ⟨S_, .f32⟩
  | .hbm, ⟨5, _⟩ => ⟨S16x1, .f32⟩
  | .hbm, ⟨6, _⟩ => ⟨S_, .f32⟩
  | .hbm, ⟨7, _⟩ => ⟨S_, .f32⟩
  | .hbm, ⟨8, _⟩ => ⟨S16x8000, .f32⟩
  | .hbm, ⟨9, _⟩ => ⟨S16x8001, .f32⟩
  | .hbm, ⟨10, _⟩ => ⟨S8000, .i32⟩
  | .hbm, ⟨11, _⟩ => ⟨S_, .i32⟩
  | .hbm, ⟨12, _⟩ => ⟨S8000, .i32⟩
  | .hbm, ⟨13, _⟩ => ⟨S8000, .i32⟩
  | .hbm, ⟨14, _⟩ => ⟨S_, .i32⟩
  | .hbm, ⟨15, _⟩ => ⟨S8000, .i32⟩
  | .hbm, ⟨16, _⟩ => ⟨S8000, .i32⟩
  | .hbm, ⟨17, _⟩ => ⟨S_, .i32⟩
  | .hbm, ⟨18, _⟩ => ⟨S8000, .i32⟩
  | .hbm, ⟨19, _⟩ => ⟨S8000, .i32⟩
  | .hbm, ⟨20, _⟩ => ⟨S8000, .i32⟩
  | .hbm, ⟨21, _⟩ => ⟨S_, .i32⟩
  | .hbm, ⟨22, _⟩ => ⟨S8000, .i32⟩
  | .hbm, ⟨23, _⟩ => ⟨S8000, .i32⟩
  | .hbm, ⟨24, _⟩ => ⟨S_, .i32⟩
  | .hbm, ⟨25, _⟩ => ⟨S8000, .i32⟩
  | .hbm, ⟨26, _⟩ => ⟨S8000, .i32⟩
  | .hbm, ⟨27, _⟩ => ⟨S8000, .f32⟩
  | .hbm, ⟨28, _⟩ => ⟨S_, .i32⟩
  | .hbm, ⟨29, _⟩ => ⟨S8000, .i32⟩
  | .hbm, ⟨30, _⟩ => ⟨S8000, .i32⟩
  | .hbm, ⟨31, _⟩ => ⟨S_, .i32⟩
  | .hbm, ⟨32, _⟩ => ⟨S8000, .i32⟩
  | .hbm, ⟨33, _⟩ => ⟨S8000, .i1⟩
  | .hbm, ⟨34, _⟩ => ⟨S_, .i32⟩
  | .hbm, ⟨35, _⟩ => ⟨S8000, .i32⟩
  | .hbm, ⟨36, _⟩ => ⟨S8000, .i32⟩
  | .hbm, ⟨37, _⟩ => ⟨S8000, .i32⟩
  | .hbm, ⟨38, _⟩ => ⟨S8000x1, .i32⟩
  | .hbm, ⟨39, _⟩ => ⟨S16x8000, .f32⟩
  | .hbm, ⟨40, _⟩ => ⟨S_, .i32⟩
  | .hbm, ⟨41, _⟩ => ⟨S8000, .i32⟩
  | .hbm, ⟨42, _⟩ => ⟨S8000, .i1⟩
  | .hbm, ⟨43, _⟩ => ⟨S_, .i32⟩
  | .hbm, ⟨44, _⟩ => ⟨S8000, .i32⟩
  | .hbm, ⟨45, _⟩ => ⟨S8000, .i32⟩
  | .hbm, ⟨46, _⟩ => ⟨S8000, .i32⟩
  | .hbm, ⟨47, _⟩ => ⟨S8000x1, .i32⟩
  | .hbm, ⟨48, _⟩ => ⟨S16x8000, .f32⟩
  | .hbm, ⟨49, _⟩ => ⟨S16x8000, .f32⟩
  | .hbm, ⟨50, _⟩ => ⟨S1x8000, .f32⟩
  | .hbm, ⟨51, _⟩ => ⟨S16x8000, .f32⟩
  | .hbm, ⟨52, _⟩ => ⟨S16x8000, .f32⟩
  | .hbm, ⟨53, _⟩ => ⟨S1x1, .f32⟩
  | .hbm, ⟨54, _⟩ => ⟨S16x8000, .f32⟩
  | .hbm, ⟨55, _⟩ => ⟨S16x8000, .f32⟩
  | .hbm, ⟨56, _⟩ => ⟨S16x1x8000, .f32⟩
  | .hbm, ⟨57, _⟩ => ⟨S_, .f32⟩
  | .hbm, ⟨58, _⟩ => ⟨S16x1x8000, .f32⟩
  | .hbm, ⟨59, _⟩ => ⟨S16x1x8000, .f32⟩
  | .hbm, ⟨60, _⟩ => ⟨S16x257x8000, .f32⟩
  | .hbm, ⟨61, _⟩ => ⟨S16x257x8000, .f32⟩
  | _, _ => ⟨S16x257x8000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_call0_cst : Ref sig .tc := ⟨.hbm, 6, rfl⟩
abbrev main_call0_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_3 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_5 : Ref sig .tc := ⟨.hbm, 28, rfl⟩
abbrev main_v17 : Ref sig .tc := ⟨.hbm, 29, rfl⟩
abbrev main_v18 : Ref sig .tc := ⟨.hbm, 30, rfl⟩
abbrev main_c_6 : Ref sig .tc := ⟨.hbm, 31, rfl⟩
abbrev main_v19 : Ref sig .tc := ⟨.hbm, 32, rfl⟩
abbrev main_v20 : Ref sig .tc := ⟨.hbm, 33, rfl⟩
abbrev main_c_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_c_8 : Ref sig .tc := ⟨.hbm, 40, rfl⟩
abbrev main_v26 : Ref sig .tc := ⟨.hbm, 41, rfl⟩
abbrev main_v27 : Ref sig .tc := ⟨.hbm, 42, rfl⟩
abbrev main_c_9 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_10 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.WindowSum.lean ====
/-
  Sums of consecutive entries of a sequence, over the extended reals: what two readings of a trailing window have in
  common. One reading takes the difference of two prefix sums; the other adds the entry itself and the entries one,
  two, … steps back, with a zero for a step that leaves the sequence. They agree where every entry is a real number.
-/
module

public import Mathlib.Data.EReal.Operations
public import Mathlib.Algebra.BigOperators.Intervals
public import Mathlib.Algebra.BigOperators.Fin

@[expose] public section

namespace Cert.WindowSum

open Finset

/-- The entry `k` steps before position `t` of a sequence, zero where there is none. -/
noncomputable def back (f : ℕ → EReal) (t k : ℕ) : EReal := if k ≤ t then f (t - k) else 0

/-- The sum of the last `w` entries of a sequence up to and including position `t`. -/
noncomputable def trailing (f : ℕ → EReal) (w t : ℕ) : EReal := ∑ k ∈ range w, back f t k

/-- The sum of the first `n` entries of a sequence. -/
noncomputable def prefixSum (f : ℕ → EReal) (n : ℕ) : EReal := ∑ i ∈ range n, f i

/-- Of real numbers: the first `n` of a sequence less the first `n - w` leave the last `w`. -/
theorem real_prefix_sub (g : ℕ → ℝ) (t : ℕ) (w : ℕ) :
    ∑ i ∈ range (t + 1), g i - ∑ i ∈ range (t + 1 - w), g i = ∑ k ∈ range w, if k ≤ t then g (t - k) else 0 := by
  induction w with
  | zero => simp
  | succ w ih =>
    rw [sum_range_succ _ w, ← ih]
    by_cases h : w ≤ t
    · rw [if_pos h, show t + 1 - w = (t - w) + 1 by omega, sum_range_succ _ (t - w), show t + 1 - (w + 1) = t - w by omega]
      ring
    · rw [if_neg h, show t + 1 - w = 0 by omega, show t + 1 - (w + 1) = 0 by omega]
      ring

/-- A sum of real numbers is a real number, the same in the extended reals. -/
theorem coe_sum {ι : Type*} (s : Finset ι) (g : ι → ℝ) : ((∑ i ∈ s, g i : ℝ) : EReal) = ∑ i ∈ s, (g i : EReal) := by
  classical
  induction s using Finset.induction_on with
  | empty => simp
  | insert a s ha ih => rw [sum_insert ha, sum_insert ha, EReal.coe_add, ih]

/-- A sum of extended reals each of which is a real number is a real number. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact sum_congr rfl fun i _ => hg i⟩

/-- Where every entry is a real number, the difference of the two prefix sums is the sum of the last `w` entries. -/
theorem prefix_sub (f : ℕ → EReal) (h : ∀ i, ∃ r : ℝ, f i = r) (w t : ℕ) :
    prefixSum f (t + 1) - prefixSum f (t + 1 - w) = trailing f w t := by
  choose g hg using h
  obtain rfl : f = fun i => (g i : EReal) := funext hg
  have hb : ∀ k, back (fun i => (g i : EReal)) t k = ((if k ≤ t then g (t - k) else 0 : ℝ) : EReal) := fun k => by
    unfold back; split <;> simp
  unfold prefixSum trailing
  simp only [hb]
  rw [← coe_sum, ← coe_sum, ← coe_sum, ← EReal.coe_sub, real_prefix_sub]

/-- A window one longer adds one entry further back. -/
theorem trailing_succ (f : ℕ → EReal) (w t : ℕ) : trailing f (w + 1) t = trailing f w t + back f t w :=
  sum_range_succ _ _

/-- A window of no entries. -/
theorem trailing_zero (f : ℕ → EReal) (t : ℕ) : trailing f 0 t = 0 := rfl

end Cert.WindowSum
-- ==== Proof.Spec.lean ====
/-
  What the kernel and the reference both compute, at one element, over the extended reals: the mean of a band-summed
  magnitude over a trailing window of twenty frames plus the bias, and the magnitude divided by that mean.
-/
module

public import proofs.«01_k».proof.Proof.WindowSum
public import Idealize.ShloMosaic.Lib.Pointwise
public import Idealize.ShloMosaic.Lib.IdealHost

@[expose] public section

noncomputable section

namespace Cert.Spec

open Idealize.ShloMosaic Idealize.ShloMosaic.Pointwise Cert.WindowSum

/-- The magnitudes: sixteen batches of 257 bands over 8000 frames. -/
abbrev Mag := (⟨3, ![16, 257, 8000]⟩ : Shape).Idx → EReal

/-- Batch `b`'s magnitudes summed over the bands, as a sequence of frames, zero past the last frame. -/
def bandSum (x : Mag) (b : Fin 16) (n : ℕ) : EReal := if h : n < 8000 then ∑ f : Fin 257, x (ix3 b f ⟨n, h⟩) else 0

/-- At a frame of the array it is the sum over the bands. -/
theorem bandSum_lt (x : Mag) (b : Fin 16) (n : ℕ) (h : n < 8000) : bandSum x b n = ∑ f : Fin 257, x (ix3 b f ⟨n, h⟩) :=
  dif_pos h

/-- How many magnitudes the window that ends at frame `t` holds. -/
def count (t : ℕ) : EReal := (((min (t + 1) 20 * 257 : ℕ) : ℝ) : EReal)

/-- The mean over the trailing window that ends at frame `t` of the sequence `s` of band sums, plus the bias `β`. -/
def mean (s : ℕ → EReal) (β : EReal) (t : ℕ) : EReal := Ideal.div (trailing s 20 t) (count t) + β

/-- The small constant that keeps the denominator from zero. -/
abbrev eps : EReal := Ideal.ofBits .f32 0x322BCC77#32

/-- The float constant 257. -/
theorem ofBits_257 : Ideal.ofBits .f32 0x43808000#32 = ((257 : ℝ) : EReal) := by
  simp [Ideal.ofBits, Ideal.ieee, -EReal.coe_mul]; norm_num

/-- A word that holds a small natural number, converted to a float, is that number. -/
theorem sitofp_ofNat (n : ℕ) (h : n < 2 ^ 31) : (FloatOps.sitofp .f32 (BitVec.ofNat 32 n) : Ideal .f32) = ((n : ℝ) : EReal) := by
  show (((BitVec.ofNat 32 n).toInt : ℝ) : EReal) = _
  rw [BitVec.toInt_ofNat', show (n : ℤ).bmod (2 ^ 32) = n by
    rw [Int.bmod_eq_of_le] <;> omega]
  simp

/-- Multiplying by the reciprocal is dividing, unless it is zero by zero. -/
theorem mul_recip (x d : EReal) (h : x ≠ 0 ∨ d ≠ 0) : x * Ideal.div 1 d = Ideal.div x d := by
  unfold Ideal.div
  by_cases hd : d = 0
  · have hx : x ≠ 0 := h.resolve_right (not_not.2 hd)
    rw [if_pos hd, if_pos hd, if_pos zero_lt_one]
    rcases lt_or_gt_of_ne hx with hn | hp
    · rw [if_neg (not_lt.2 hn.le), EReal.mul_top_of_neg hn]
    · rw [if_pos hp, EReal.mul_top_of_pos hp]
  · rw [if_neg hd, if_neg hd, one_mul]

end Cert.Spec

end
-- ==== Proof.Words.lean ====
/-
  The 32-bit index words of the two programs, for a frame number `t` below 8000: each holds the natural number that the
  arithmetic on unbounded integers gives.
-/
module

public import Idealize.ShloMosaic.Lib.Pointwise
public import Idealize.ShloMosaic.Lib.Tactic.WordOmega

@[expose] public section

namespace Cert.Words

open Idealize.ShloMosaic

/-- A small natural number's word, read signed, is the number. -/
theorem toInt_small (n : ℕ) (h : n < 2 ^ 31) : (BitVec.ofNat 32 n).toInt = n := by
  rw [BitVec.toInt_ofNat', Int.bmod_eq_of_le] <;> omega

/-- The kernel's count of the frames in the window, `min (t + 1, 20)`. -/
theorem frames (t : ℕ) (h : t < 8000) :
    IntOp.minsi (IntOp.addi (BitVec.ofNat 32 t) 1#32) 20#32 = BitVec.ofNat 32 (min (t + 1) 20) := by
  unfold IntOp.minsi IntOp.addi
  rw [← BitVec.ofNat_add t 1, BitVec.slt_eq_decide, toInt_small _ (by omega), toInt_small 20 (by omega)]
  split
  · next hlt => rw [Nat.min_eq_left (by have := of_decide_eq_true hlt; omega)]
  · next hge => rw [Nat.min_eq_right (by have := of_decide_eq_false (Bool.eq_false_iff.2 hge); omega)]

/-- The reference's first frame of the window, `max (0, t - 20 + 1)`. -/
theorem start (t : ℕ) (h : t < 8000) :
    IntOp.maxsi 0#32 (IntOp.addi (IntOp.subi (BitVec.ofNat 32 t) 20#32) 1#32) = BitVec.ofNat 32 (t + 1 - 20) := by
  have hz : (0#32 : BitVec 32).toInt = 0 := by decide
  have hw : IntOp.addi (IntOp.subi (BitVec.ofNat 32 t) 20#32) 1#32 = BitVec.ofInt 32 ((t : ℤ) - 19) := by
    unfold IntOp.addi IntOp.subi
    apply BitVec.eq_of_toNat_eq
    simp only [BitVec.toNat_add, BitVec.toNat_sub, BitVec.toNat_ofNat, BitVec.toNat_ofInt]
    omega
  have hi : (BitVec.ofInt 32 ((t : ℤ) - 19)).toInt = (t : ℤ) - 19 := by
    rw [BitVec.toInt_ofInt, Int.bmod_eq_of_le] <;> omega
  rw [hw]
  unfold IntOp.maxsi
  simp only [BitVec.slt_eq_decide, hi, hz, decide_eq_true_eq]
  split
  · rw [show t + 1 - 20 = 0 by omega]
  · rw [show (t : ℤ) - 19 = ((t + 1 - 20 : ℕ) : ℤ) by omega, BitVec.ofInt_natCast]

/-- The reference's count of the magnitudes in the window, `(t - start + 1) * 257`. -/
theorem count (t : ℕ) (_h : t < 8000) :
    IntOp.muli (IntOp.addi (IntOp.subi (BitVec.ofNat 32 t) (BitVec.ofNat 32 (t + 1 - 20))) 1#32) 257#32
      = BitVec.ofNat 32 (min (t + 1) 20 * 257) := by
  unfold IntOp.muli IntOp.addi IntOp.subi
  apply BitVec.eq_of_toNat_eq
  simp only [BitVec.toNat_add, BitVec.toNat_sub, BitVec.toNat_mul, BitVec.toNat_ofNat]
  omega

/-- A position counted from the end where it is negative: a position that is not negative stays. -/
theorem wrap (n : ℕ) (h : n < 8001) :
    Scalar.select (IntOp.cmpi .slt (BitVec.ofNat 32 n) 0#32) (IntOp.addi (BitVec.ofNat 32 n) 8001#32) (BitVec.ofNat 32 n)
      = BitVec.ofNat 32 n := by
  apply BitVec.eq_of_toNat_eq
  word_omega

/-- One more than a frame number. -/
theorem next (t : ℕ) : IntOp.addi (BitVec.ofNat 32 t) 1#32 = BitVec.ofNat 32 (t + 1) :=
  (BitVec.ofNat_add t 1).symm

end Cert.Words
-- ==== Proof.Block.lean ====
/-
  What the kernel's body computes from one batch's block, at an element.
-/
module

public import proofs.«01_k».proof.Proof.Spec
public import proofs.«01_k».proof.Proof.Words
public import proofs.«01_k».proof.Proof.Gen.KernelIdeal.Frame

@[expose] public section

set_option maxRecDepth 16384

noncomputable section

namespace Cert.KernelIdeal.Block

open Idealize.ShloMosaic Idealize.ShloMosaic.Pointwise Cert.KernelIdeal Cert.KernelIdeal.Gen
open Cert.WindowSum Cert.Spec

/-- A row of 8000 numbers as a sequence, zero past its end. -/
def seqOf (a : FVec Ideal S1x8000 .f32) (n : ℕ) : EReal := if h : n < 8000 then a (ix2 0 ⟨n, h⟩) else 0

/-- One shifted copy of a row — zeros in front, the row's head after them — read at frame `t`, is the entry `k` steps back. -/
theorem shifted (a : FVec Ideal S1x8000 .f32) (t : Fin 8000) (k : ℕ) (h : ¬ t.val < k → t.val - k < 8000) :
    (if hk : t.val < k then (0 : EReal) else a (ix2 0 ⟨t.val - k, h hk⟩)) = back (seqOf a) t.val k := by
  have ht := t.isLt
  unfold back seqOf
  by_cases hk : t.val < k
  · rw [dif_pos hk, if_neg (by omega)]
  · rw [dif_neg hk, if_pos (by omega), dif_pos (by omega)]

/-- The row itself, read at frame `t`, is the entry no step back. -/
theorem unshifted (a : FVec Ideal S1x8000 .f32) (t : Fin 8000) : a (ix2 0 t) = trailing (seqOf a) 1 t.val := by
  rw [trailing_succ, trailing_zero, zero_add]
  unfold back seqOf
  rw [if_pos (Nat.zero_le _), dif_pos (by have := t.isLt; omega)]
  rfl

/-- The row the block's magnitudes sum to over the bands, at a frame. -/
theorem bands (v : Vec Ideal S1x257x8000 .f32) (t : Fin 8000) : k0_pay5 v (ix2 0 t) = ∑ f : Fin 257, v (ix3 0 f t) := by
  pointwise [k0_pay5, k0_pay4]

/-- The first ten shifted copies added to the row: the window of eleven frames. -/
theorem eleven (v : Vec Ideal S1x257x8000 .f32) (t : Fin 8000) :
    k0_pay6 v (ix2 0 t) = trailing (seqOf (k0_pay5 v)) 11 t.val := by
  pointwise [k0_pay6]
  rw [unshifted (k0_pay5 v) t]
  iterate 10 rw [shifted, ← trailing_succ]

/-- The other nine shifted copies added and the sum divided by the count: the mean over the window, without the bias. -/
theorem divided (v : Vec Ideal S1x257x8000 .f32) (t : Fin 8000) :
    k0_pay7 (k0_pay5 v) (k0_pay6 v) (Scalar.ofBits .f32 0x00000000#32) (ix2 0 t)
      = Ideal.div (trailing (seqOf (k0_pay5 v)) 20 t.val) (Spec.count t.val) := by
  pointwise [k0_pay7]
  rw [eleven]
  iterate 9 rw [shifted, ← trailing_succ]
  rw [Words.frames _ t.isLt, sitofp_ofNat _ (by omega), ofBits_257]
  unfold Spec.count
  rw [Nat.cast_mul, EReal.coe_mul]
  rfl

/-- The body's row of means, the bias added, at a frame. -/
theorem mean_row (v : Vec Ideal S1x257x8000 .f32) (β : Ideal .f32) (t : Fin 8000) :
    k0_pay2 (k0_pay7 (k0_pay5 v) (k0_pay6 v) (Scalar.ofBits .f32 0x00000000#32)) β (ix3 0 0 t)
      = mean (seqOf (k0_pay5 v)) β t.val := by
  refine Eq.trans ?_ (congrArg (· + β) (divided v t))
  generalize k0_pay7 (k0_pay5 v) (k0_pay6 v) (Scalar.ofBits .f32 0x00000000#32) = a
  pointwise [k0_pay2, k0_pay1]

/-- The body's normalised block at a band and a frame: the magnitude times the reciprocal of the mean plus the small constant. -/
theorem norm_block (v : Vec Ideal S1x257x8000 .f32) (β : Ideal .f32) (f : Fin 257) (t : Fin 8000) :
    k0_pay3 (k0_pay4 v) (k0_pay7 (k0_pay5 v) (k0_pay6 v) (Scalar.ofBits .f32 0x00000000#32)) β (ix3 0 f t)
      = v (ix3 0 f t) * Ideal.div 1 (mean (seqOf (k0_pay5 v)) β t.val + eps) := by
  refine Eq.trans ?_ (congrArg (fun q => v (ix3 0 f t) * Ideal.div 1 (q + β + eps)) (divided v t))
  generalize k0_pay7 (k0_pay5 v) (k0_pay6 v) (Scalar.ofBits .f32 0x00000000#32) = a
  pointwise [k0_pay3, k0_pay1, k0_pay4]

end Cert.KernelIdeal.Block

end
-- ==== Proof.Arrays.lean ====
/-
  What the kernel's two result arrays hold after its run, as functions of the two arguments.
-/
module

public import proofs.«01_k».proof.Proof.Block
public import proofs.«01_k».proof.Proof.Gen.KernelIdeal.Value
public import Idealize.ShloMosaic.Lib.Pipeline.ValueKit

@[expose] public section

set_option maxRecDepth 16384

noncomputable section

namespace Cert.KernelIdeal.Arrays

open Idealize.ShloMosaic Idealize.ShloMosaic.TcCoe Idealize.SL.Sem Idealize.ShloMosaic.Pointwise
open Cert.KernelIdeal Cert.KernelIdeal.Gen Cert.KernelIdeal.Block Cert.Spec
open Idealize.ShloMosaic.Pipeline (Dat)

variable (m : (ℓ : Loc nD τ sig) → Buf (Elt Ideal) ℓ) (ρ : Dev nD → PrngReg)

/-- Device `c`'s magnitudes. -/
abbrev mag (c : Dev nD) : Mag := m ((c : Thread nD τ).loc main_arg0)
/-- Device `c`'s bias. -/
abbrev bias (c : Dev nD) : EReal := m ((c : Thread nD τ).loc main_arg1) (ix1 0)

/-- Where each window's block lies: the batch is the grid point, or, of the bias, the one block there is. -/
theorem idx : ∀ t : Fin cfg0.N, win0_0.index t = ![t.val, 0, 0] ∧ win0_1.index t = ![0, 0]
    ∧ win0_2.index t = ![t.val, 0, 0] ∧ win0_3.index t = ![t.val, 0, 0] :=
  (by decide +kernel : ∀ t : Fin grid0.N, win0_0.index t = ![t.val, 0, 0] ∧ win0_1.index t = ![0, 0]
    ∧ win0_2.index t = ![t.val, 0, 0] ∧ win0_3.index t = ![t.val, 0, 0])

/-- A grid point's batch. -/
abbrev batch (t : Fin cfg0.N) : Fin 16 := ⟨t.val, t.isLt⟩

/-- The block of magnitudes at point `t` is batch `t`. -/
theorem mag_block (c : Dev nD) (t : Fin cfg0.N) (f : Fin 257) (k : Fin 8000) :
    (iblk m c 0 t : Vec Ideal S1x257x8000 .f32) (ix3 0 f k) = mag m c (ix3 (batch t) f k) := by
  blk_ext [iblk, V, idx t]

/-- The block of the bias is the bias. -/
theorem bias_block (c : Dev nD) (t : Fin cfg0.N) :
    (iblk m c 1 t : Vec Ideal S1x1 .f32) (ix2 0 0) = bias m c := by
  blk_ext! [iblk, V, idx t]

/-- The block's row of band sums is the batch's sequence of band sums. -/
theorem seq_block (c : Dev nD) (t : Fin cfg0.N) :
    seqOf (k0_pay5 (iblk m c 0 t : Vec Ideal S1x257x8000 .f32)) = bandSum (mag m c) (batch t) := by
  funext n
  unfold seqOf bandSum
  by_cases h : n < 8000
  · rw [dif_pos h, dif_pos h, bands]
    exact Finset.sum_congr rfl fun f _ => mag_block m c t f _
  · rw [dif_neg h, dif_neg h]

/-- The means: at batch `i 0` and frame `i 2`. -/
def means (c : Dev nD) : Buf (Elt Ideal) ((c : Thread nD τ).loc main_v1_1) :=
  fun i => mean (bandSum (mag m c) (i 0)) (bias m c) (i 2).val

/-- The normalised magnitudes: each magnitude times the reciprocal of its frame's mean plus the small constant. -/
def norms (c : Dev nD) : Buf (Elt Ideal) ((c : Thread nD τ).loc main_v1_0) :=
  fun i => mag m c i * Ideal.div 1 (mean (bandSum (mag m c) (i 0)) (bias m c) (i 2).val + eps)

/-- The body's load of the magnitudes' block is the whole block. -/
theorem whole_block (v : Vec Ideal S1x257x8000 .f32) : View.ld v r0_0 = v :=
  View.ld_unit_zero (funext fun a => by fin_cases a <;> rfl) _ v

/-- The body's load of the bias's block is the whole block. -/
theorem whole_bias (v : Vec Ideal S1x1 .f32) : View.ld v r0_1 = v :=
  View.ld_unit_zero (funext fun a => by fin_cases a <;> rfl) _ v

/-- The body reads the bias off its block. -/
theorem bias_read (v : Vec Ideal S1x1 .f32) : k0_pay8 v = v (ix2 0 0) := by
  pointwise [k0_pay8]

/-- The mean at point `t`, of the body's values. -/
theorem mean_point (c : Dev nD) (t : Fin cfg0.N) (k : Fin 8000) :
    k0_pay2 (k0_pay9 (iblk m c 0 t) (iblk m c 1 t)) (k0_pay8 (iblk m c 1 t)) (ix3 0 0 k)
      = mean (bandSum (mag m c) (batch t)) (bias m c) k.val := by
  unfold k0_pay9
  rw [whole_block, mean_row, seq_block, bias_read, bias_block]

/-- The normalised magnitude at point `t`, of the body's values. -/
theorem norm_point (c : Dev nD) (t : Fin cfg0.N) (f : Fin 257) (k : Fin 8000) :
    k0_pay3 (k0_pay4 (iblk m c 0 t)) (k0_pay9 (iblk m c 0 t) (iblk m c 1 t)) (k0_pay8 (iblk m c 1 t)) (ix3 0 f k)
      = mag m c (ix3 (batch t) f k)
        * Ideal.div 1 (mean (bandSum (mag m c) (batch t)) (bias m c) k.val + eps) := by
  unfold k0_pay9
  rw [whole_block, norm_block, seq_block, bias_read, bias_block, mag_block]

/-- The second result array ends holding the means. -/
theorem final_means (c : Dev nD) : (dats m 0 c).arrAt 3 cfg0.N = means m c := by
  refine (dats m 0 c).arrAt_eq_of_covers 3 _ (by decide +kernel) fun t hf y => ?_
  blk_simp
  rw [after0_3]
  frame_out
  have hy : (y : S1x1x8000.Idx) = ix3 0 0 (y 2) := by blk_ext
  refine (congrArg _ hy).trans ((mean_point m c t (y 2)).trans ?_)
  have h0 : (((View.whole main_v1_1).slice (win0_3.rect t)).emb y : S16x1x8000.Idx) = ix3 (batch t) 0 (y 2) := by
    blk_ext [idx t]
  exact (congrArg (means m c) h0).symm

/-- The first result array ends holding the normalised magnitudes. -/
theorem final_norms (c : Dev nD) : (dats m 0 c).arrAt 2 cfg0.N = norms m c := by
  refine (dats m 0 c).arrAt_eq_of_covers 2 _ (by decide +kernel) fun t hf y => ?_
  blk_simp
  rw [after0_2]
  frame_out
  have hy : (y : S1x257x8000.Idx) = ix3 0 (y 1) (y 2) := by blk_ext
  refine (congrArg _ hy).trans ((norm_point m c t (y 1) (y 2)).trans ?_)
  have h0 : (((View.whole main_v1_0).slice (win0_2.rect t)).emb y : S16x257x8000.Idx) = ix3 (batch t) (y 1) (y 2) := by
    blk_ext [idx t]
  exact (congrArg (norms m c) h0).symm

/-- The kernel's run: its results at the normalised magnitudes and the means, its arguments unchanged. -/
theorem run : θ_run defs (onTc (τ := τ) (main (F := Ideal))) ⟨m, fun _ => 0, ρ⟩ fun r => ∀ c : Dev nD,
      r.2.mem ((c : Thread nD τ).loc main_v1_0) = norms m c
      ∧ r.2.mem ((c : Thread nD τ).loc main_v1_1) = means m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final_norms m c), (h c).2.1.trans (final_means m c), (h c).2.2⟩)
    (Value.run_blocks m ρ)

end Cert.KernelIdeal.Arrays

end
-- ==== Proof.Prefix.lean ====
/-
  Two host operations read at an element, over the extended reals: the running sum along the rows of a matrix, printed
  as a sum over a window as long as the row and padded in front, and the gather that takes whole columns of a matrix.
-/
module

public import proofs.«01_k».proof.Proof.WindowSum
public import proofs.«01_k».proof.Proof.Words
public import Idealize.ShloMosaic.Lib.Pointwise

@[expose] public section

set_option maxRecDepth 16384

noncomputable section

namespace Cert.Prefix

open Idealize.ShloMosaic Idealize.ShloMosaic.Pointwise Cert.WindowSum

/-- A matrix of `a` rows and `n` columns. -/
abbrev Mat (a n : ℕ) : Shape := ⟨2, ![a, n]⟩

/-- A left fold that adds is the first value plus the sum over the positions. -/
theorem foldl_add_finRange (M : ℕ) (g : Fin M → EReal) (v : EReal) :
    (List.finRange M).foldl (fun r i => r + g i) v = v + ∑ i, g i := by
  rw [← List.sum_ofFn, List.ofFn_eq_map]
  generalize List.finRange M = l
  induction l generalizing v with
  | nil => simp
  | cons i l ih => rw [List.foldl_cons, ih, List.map_cons, List.sum_cons, add_assoc]

/-- A window of `P + 1` positions that ends at position `j` of a sequence, zero where it begins before the sequence,
    sums to the sequence's first `j + 1` entries. -/
theorem padded_window (s : ℕ → EReal) (P j : ℕ) (hj : j ≤ P) :
    ∑ i ∈ Finset.range (P + 1), (if P ≤ j + i then s (j + i - P) else 0) = prefixSum s (j + 1) := by
  obtain ⟨d, rfl⟩ := Nat.exists_eq_add_of_le hj
  rw [show j + d + 1 = d + (j + 1) by omega, Finset.sum_range_add,
    Finset.sum_eq_zero fun i hi => if_neg (by have := Finset.mem_range.1 hi; omega), zero_add]
  refine Finset.sum_congr rfl fun i _ => ?_
  rw [if_pos (by omega), show j + (d + i) - (j + d) = i by omega]

/-- A window one row high and `n` columns wide has `n` positions. -/
theorem numel_row (n : ℕ) : (Mat 1 n).numel = n := by
  show ∏ a : Fin 2, (![1, n] : Fin 2 → ℕ) a = n
  simp

/-- Position `i` of such a window is in its one row, at column `i`. -/
theorem row_position (n : ℕ) (i : Fin (Mat 1 n).numel) :
    ((Mat 1 n).rowMajor.symm i 0).val = 0 ∧ ((Mat 1 n).rowMajor.symm i 1).val = i.val := by
  have h0 : ((Mat 1 n).rowMajor.symm i 0).val = 0 := Nat.lt_one_iff.1 ((Mat 1 n).rowMajor.symm i 0).isLt
  refine ⟨h0, ?_⟩
  have h := Shape.rowMajor_val_two ((Mat 1 n).rowMajor.symm i)
  rw [Equiv.apply_symm_apply, h0] at h
  simpa using h.symm

/-- The running sum along the rows: where row `b` of the operand holds the sequence `s`, the result at `(b, j)` is the
    sum of the first `j + 1` entries. -/
theorem running_sum {a n P : ℕ} (hn : P + 1 = n) (x : (Mat a n).Idx → EReal) (b : Fin a) (s : ℕ → EReal)
    (hs : ∀ i : Fin n, x (ix2 b i) = s i.val) {u : Shape} (init : u.Idx → EReal) (hu : 0 < u.numel)
    (hinit : ∀ k, init k = 0) (h : (Mat a n).ReduceWindows (![1, n] : Fin 2 → ℕ) ![1, 1] ![0, P] ![0, 0] (Mat a n))
    (j : Fin n) :
    (Host.reduceWindowAdd (F := Ideal) (φ := .f32) ![1, n] ![1, 1] ![0, P] ![0, 0] x init h hu : FVec Ideal (Mat a n) .f32) (ix2 b j)
      = prefixSum s (j.val + 1) := by
  have hj := j.isLt
  show Ideal.hostReduceWindowAdd _ _ _ _ h x (init (Shape.Idx.first hu)) (ix2 b j) = _
  rw [hinit]
  unfold Ideal.hostReduceWindowAdd Host.reduceWindow
  refine (foldl_add_finRange _ (fun i => _) 0).trans ?_
  rw [zero_add, ← padded_window s P j.val (by omega)]
  refine Eq.trans (Finset.sum_congr rfl fun i _ => ?_)
    ((Fin.sum_univ_eq_sum_range (fun i => if P ≤ j.val + i then s (j.val + i - P) else 0) (Mat 1 n).numel).trans
      (by rw [numel_row, hn]))
  obtain ⟨h0, h1⟩ := row_position n i
  have hi : i.val < n := (i.cast (numel_row n)).isLt
  have hb := b.isLt
  have e0 : (ix2 b j (0 : Fin 2)).val * (![1, 1] : Fin 2 → ℕ) 0 + ((Mat 1 n).rowMajor.symm i 0).val = b.val := by
    rw [h0]; exact Nat.mul_one _
  have e1 : (ix2 b j (1 : Fin 2)).val * (![1, 1] : Fin 2 → ℕ) 1 + ((Mat 1 n).rowMajor.symm i 1).val = j.val + i.val := by
    rw [h1]; exact congrArg (· + i.val) (Nat.mul_one _)
  split
  · next hin =>
    have hP : P ≤ j.val + i.val := by
      have := (hin 1).1
      dsimp only at this
      rw [show ((1 : Fin 2).cast _ : Fin 2) = 1 from rfl, e1] at this
      exact this
    rw [if_pos hP]
    refine (congrArg x (funext fun q => Fin.ext ?_)).trans (hs ⟨j.val + i.val - P, by omega⟩)
    match q with
    | ⟨0, _⟩ => exact (congrArg (· - 0) e0).trans rfl
    | ⟨1, _⟩ => exact congrArg (· - P) e1
  · next hout =>
    refine (if_neg fun hP => hout fun q => ?_).symm
    match q with
    | ⟨0, _⟩ => exact ⟨Nat.zero_le _, lt_of_eq_of_lt ((congrArg (· - 0) e0).trans rfl) hb⟩
    | ⟨1, _⟩ => exact ⟨le_of_le_of_eq hP e1.symm, lt_of_eq_of_lt (congrArg (· - P) e1) (by show j.val + i.val - P < n; omega)⟩

/-- The dimension numbers of a gather of whole columns: row axis kept, column axis indexed by one word per result column. -/
abbrev columnDims (a n p : ℕ) (wf : GatherDims.WF (Mat a n) (Mat p 1) (Mat a p) [0] [1] [] [1] [] 1 ![a, 1]) :
    GatherDims (Mat a n) (Mat p 1) (Mat a p) where
  offsetDims := [0]
  collapsedSliceDims := [1]
  operandBatchingDims := []
  startIndicesBatchingDims := []
  startIndexMap := [1]
  indexVectorDim := 1
  sliceSizes := ![a, 1]
  wf := wf

/-- The gather of whole columns: column `c` of the result is the operand's column `k` where the index word of `c` is `k`. -/
theorem columns {α : Type} {a n p : ℕ} (wf : GatherDims.WF (Mat a n) (Mat p 1) (Mat a p) [0] [1] [] [1] [] 1 ![a, 1])
    (hn : n < 2 ^ 31) (x : (Mat a n).Idx → α) (w : IVec (Mat p 1) 32) (b : Fin a) (c : Fin p)
    (k : Fin n) (hk : w (ix2 c 0) = BitVec.ofNat 32 k.val) :
    Host.gather (columnDims a n p wf) x w (ix2 b c) = x (ix2 b k) := by
  have hkn := k.isLt
  refine congrArg x (funext fun q => Fin.ext ?_)
  match q with
  | ⟨0, _⟩ => exact (Nat.zero_add _).trans rfl
  | ⟨1, _⟩ =>
    have hw : (columnDims a n p wf).siIdx (ix2 b c) ⟨0, Nat.one_pos⟩ = ix2 c 0 := by
      funext r
      match r with
      | ⟨0, _⟩ => rfl
      | ⟨1, _⟩ => rfl
    show min (w ((columnDims a n p wf).siIdx (ix2 b c) ⟨0, Nat.one_pos⟩)).toInt.toNat (n - 1) = k.val
    rw [hw, hk, Words.toInt_small _ (by omega), Int.toNat_natCast]
    omega

end Cert.Prefix

end
-- ==== Proof.Reference.lean ====
/-
  What the reference computes, at an element: its operations in named steps, and each step read at an index.
-/
module

public import proofs.«01_k».proof.Proof.Spec
public import proofs.«01_k».proof.Proof.Prefix
public import proofs.«01_k».proof.Proof.Gen.ReferenceIdeal.Run

@[expose] public section

set_option maxRecDepth 16384

noncomputable section

namespace Cert.ReferenceIdeal.Read

open Idealize.ShloMosaic Idealize.ShloMosaic.TcCoe Idealize.SL.Sem Idealize.ShloMosaic.Pointwise
open Cert.ReferenceIdeal Cert.ReferenceIdeal.Gen Cert.ReferenceIdeal.Facts Cert.WindowSum Cert.Spec

/-! ## The steps -/

/-- The magnitudes summed over the bands. -/
def sums (x : FVec Ideal S16x257x8000 .f32) : FVec Ideal S16x8000 .f32 :=
  Host.reduceAdd x (constant S_ .f32 0x00000000#32) reducesTo_S16x257x8000_S16x8000_d1 h_S_

/-- The running sums of the band sums, a zero in front of them. -/
def prefixes (x : FVec Ideal S16x257x8000 .f32) : FVec Ideal S16x8001 .f32 :=
  concatenate S16x8001 1 [⟨S16x1, broadcastInDim S16x1 ![] bcast_S_S16x1 (constant S_ .f32 0x00000000#32)⟩,
    ⟨S16x8000, Host.reduceWindowAdd ![1, 8000] ![1, 1] ![0, 7999] ![0, 0] (sums x)
      (broadcastInDim S_ ![] bcast_S_S_ (constant S_ .f32 0x00000000#32))
      reduceWindows_S16x8000_S16x8000_w1s1p0_0_w8000s1p7999_0 h_S_⟩] concatenates_S16x1_S16x8000_S16x8001_d1

/-- One word for every frame. -/
def splat (w : BitVec 32) : IVec S8000 32 := broadcastInDim S8000 ![] bcast_S_S8000 (constantI S_ 32 w)

/-- The frame numbers. -/
def frame : IVec S8000 32 := iotaInDim S8000 32 0

/-- The position after the window. -/
def next : IVec S8000 32 := addi frame (splat 1#32)

/-- The window's first frame. -/
def first : IVec S8000 32 := maxsi (splat 0#32) (addi (subi frame (splat 20#32)) (splat 1#32))

/-- How many magnitudes the window holds. -/
def counts : FVec Ideal S8000 .f32 := sitofp .f32 (muli (addi (subi frame first) (splat 1#32)) (splat 257#32))

/-- The running sums at the positions `w`, a negative one counted from the end. -/
def take (x : FVec Ideal S16x257x8000 .f32) (w : IVec S8000 32) : FVec Ideal S16x8000 .f32 :=
  Host.gather gather_S16x8001_S8000x1_S16x8000_0_1_n_n_1_1_161 (prefixes x)
    (broadcastInDim S8000x1 ![0] bcast_S8000_S8000x1_0 (select (cmpi .slt w (splat 0#32)) (addi w (splat 8001#32)) w))

/-- The means, the bias added. -/
def means (x : FVec Ideal S16x257x8000 .f32) (β : FVec Ideal S1 .f32) : FVec Ideal S16x1x8000 .f32 :=
  broadcastInDim S16x1x8000 ![0, 2] bcast_S16x8000_S16x1x8000_0_2
    (addf (Host.divf (subf (take x next) (take x first))
        (broadcastInDim S16x8000 ![0, 1] bcast_S1x8000_S16x8000_0_1 (broadcastInDim S1x8000 ![1] bcast_S8000_S1x8000_1 counts)))
      (broadcastInDim S16x8000 ![0, 1] bcast_S1x1_S16x8000_0_1 (broadcastInDim S1x1 ![1] bcast_S1_S1x1_1 β)))

/-- The means plus the small constant. -/
def denoms (x : FVec Ideal S16x257x8000 .f32) (β : FVec Ideal S1 .f32) : FVec Ideal S16x1x8000 .f32 :=
  addf (means x β) (broadcastInDim S16x1x8000 ![] bcast_S_S16x1x8000 (constant S_ .f32 0x322BCC77#32))

/-- The normalised magnitudes. -/
def norms (x : FVec Ideal S16x257x8000 .f32) (β : FVec Ideal S1 .f32) : FVec Ideal S16x257x8000 .f32 :=
  Host.divf x (broadcastInDim S16x257x8000 ![0, 1, 2] bcast_S16x1x8000_S16x257x8000_0_1_2 (denoms x β))

/-- The reference's run: its results at the normalised magnitudes and the means, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v44) = norms (m ((c : Thread nD τ).loc main_arg0)) (m ((c : Thread nD τ).loc main_arg1))
      ∧ r.2.mem ((c : Thread nD τ).loc main_v40) = means (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  Value.run m ρ

/-! ## The steps read at an index -/

/-- The band sums at a batch and a frame. -/
theorem sums_at (x : FVec Ideal S16x257x8000 .f32) (b : Fin 16) (t : Fin 8000) : sums x (ix2 b t) = bandSum x b t.val := by
  rw [bandSum_lt x b t.val t.isLt]
  pointwise [sums]

/-- The running sums: column `n` holds the sum of the first `n` band sums. -/
theorem prefixes_at (x : FVec Ideal S16x257x8000 .f32) (b : Fin 16) (n : Fin 8001) :
    prefixes x (ix2 b n) = prefixSum (bandSum x b) n.val := by
  pointwise [prefixes]
  split
  · next h =>
    rw [show n.val = 0 by omega]
    rfl
  · next h =>
    have hn := n.isLt
    refine (Prefix.running_sum (P := 7999) rfl (sums x) b (bandSum x b) (sums_at x b) _ h_S_ (fun k => ?_) _
      ⟨n.val - 1, by omega⟩).trans ?_
    · pointwise
    · show prefixSum _ (n.val - 1 + 1) = _
      rw [show n.val - 1 + 1 = n.val by omega]

/-- The running sums taken at a position in range. -/
theorem take_at (x : FVec Ideal S16x257x8000 .f32) (w : IVec S8000 32) (b : Fin 16) (t : Fin 8000) (n : ℕ) (hn : n < 8001)
    (hw : w (ix1 t) = BitVec.ofNat 32 n) : take x w (ix2 b t) = prefixSum (bandSum x b) n := by
  refine (Prefix.columns (a := 16) (n := 8001) (p := 8000) gather_S16x8001_S8000x1_S16x8000_0_1_n_n_1_1_161.wf (by decide)
    (prefixes x) _ b t ⟨n, hn⟩ ?_).trans (prefixes_at x b ⟨n, hn⟩)
  refine Eq.trans ?_ (Words.wrap n hn)
  rw [← hw]
  pointwise [splat]

/-- The position after the window of frame `t`. -/
theorem next_at (t : Fin 8000) : next (ix1 t) = BitVec.ofNat 32 (t.val + 1) := by
  refine Eq.trans ?_ (Words.next t.val)
  pointwise [next, frame, splat]

/-- The first frame of the window of frame `t`. -/
theorem first_at (t : Fin 8000) : first (ix1 t) = BitVec.ofNat 32 (t.val + 1 - 20) := by
  refine Eq.trans ?_ (Words.start t.val t.isLt)
  pointwise [first, frame, splat]

/-- The count of the window of frame `t`. -/
theorem counts_at (t : Fin 8000) : counts (ix1 t) = Spec.count t.val := by
  refine Eq.trans ?_ (sitofp_ofNat (min (t.val + 1) 20 * 257) (by omega))
  rw [← Words.count t.val t.isLt, ← first_at t]
  pointwise [counts, frame, splat]

/-- The means at a batch and a frame, where every band sum is a real number. -/
theorem means_at (x : FVec Ideal S16x257x8000 .f32) (β : FVec Ideal S1 .f32) (b : Fin 16) (t : Fin 8000)
    (hx : ∀ n, ∃ r : ℝ, bandSum x b n = r) : means x β (ix3 b 0 t) = mean (bandSum x b) (β (ix1 0)) t.val := by
  unfold mean
  rw [← prefix_sub _ hx, ← take_at x next b t _ (by have := t.isLt; omega) (next_at t),
    ← take_at x first b t _ (by have := t.isLt; omega) (first_at t), ← counts_at]
  pointwise [means]

/-- The denominators at a batch and a frame. -/
theorem denoms_at (x : FVec Ideal S16x257x8000 .f32) (β : FVec Ideal S1 .f32) (b : Fin 16) (t : Fin 8000) :
    denoms x β (ix3 b 0 t) = means x β (ix3 b 0 t) + eps := by
  pointwise [denoms]

/-- The normalised magnitude at an element: the magnitude over its frame's denominator. -/
theorem norms_at (x : FVec Ideal S16x257x8000 .f32) (β : FVec Ideal S1 .f32) (b : Fin 16) (f : Fin 257) (t : Fin 8000) :
    norms x β (ix3 b f t) = Ideal.div (x (ix3 b f t)) (denoms x β (ix3 b 0 t)) := by
  pointwise [norms]

end Cert.ReferenceIdeal.Read

end
-- ==== Proof.Precondition.lean ====
/-
  What the precondition says at an element: the magnitude is a real number, and it and its frame's denominator are not
  both zero.
-/
module

public import proofs.«01_k».proof.Pre_finite_no_zero_by_zero
public import proofs.«01_k».proof.Proof.Reference

@[expose] public section

set_option maxRecDepth 16384

noncomputable section

namespace Cert.Precondition

open Idealize.ShloMosaic Idealize.ShloMosaic.Pointwise Cert.ReferenceIdeal Cert.ReferenceIdeal.Read Cert.Spec

/-- The shape conditions that the precondition's program states hold: all but one are the reference's. -/
instance facts : Cert.Pre_finite_no_zero_by_zero.Facts where
  reducesTo_S16x257x8000_S16x8000_d1 := Cert.ReferenceIdeal.Gen.reducesTo_S16x257x8000_S16x8000_d1
  h_S_ := Cert.ReferenceIdeal.Gen.h_S_
  bcast_S_S16x1 := Cert.ReferenceIdeal.Gen.bcast_S_S16x1
  bcast_S_S_ := Cert.ReferenceIdeal.Gen.bcast_S_S_
  reduceWindows_S16x8000_S16x8000_w1s1p0_0_w8000s1p7999_0 := Cert.ReferenceIdeal.Gen.reduceWindows_S16x8000_S16x8000_w1s1p0_0_w8000s1p7999_0
  concatenates_S16x1_S16x8000_S16x8001_d1 := Cert.ReferenceIdeal.Gen.concatenates_S16x1_S16x8000_S16x8001_d1
  bcast_S_S8000 := Cert.ReferenceIdeal.Gen.bcast_S_S8000
  bcast_S8000_S8000x1_0 := Cert.ReferenceIdeal.Gen.bcast_S8000_S8000x1_0
  bcast_S8000_S1x8000_1 := Cert.ReferenceIdeal.Gen.bcast_S8000_S1x8000_1
  bcast_S1x8000_S16x8000_0_1 := Cert.ReferenceIdeal.Gen.bcast_S1x8000_S16x8000_0_1
  bcast_S1_S1x1_1 := Cert.ReferenceIdeal.Gen.bcast_S1_S1x1_1
  bcast_S1x1_S16x8000_0_1 := Cert.ReferenceIdeal.Gen.bcast_S1x1_S16x8000_0_1
  bcast_S16x8000_S16x1x8000_0_2 := Cert.ReferenceIdeal.Gen.bcast_S16x8000_S16x1x8000_0_2
  bcast_S_S16x1x8000 := Cert.ReferenceIdeal.Gen.bcast_S_S16x1x8000
  bcast_S16x1x8000_S16x257x8000_0_1_2 := Cert.ReferenceIdeal.Gen.bcast_S16x1x8000_S16x257x8000_0_1_2
  bcast_S_S16x257x8000 := by decide
  gather_S16x8001_S8000x1_S16x8000_0_1_n_n_1_1_161_wf := Cert.ReferenceIdeal.Gen.gather_S16x8001_S8000x1_S16x8000_0_1_n_n_1_1_161_wf

open Cert.Pre_finite_no_zero_by_zero.Facts in
/-- The precondition in the reference's named steps: the absolute value below infinity, and the magnitude or the denominator
    unlike zero. -/
theorem steps (x : FVec Ideal S16x257x8000 .f32) (β : FVec Ideal S1 .f32) :
    Cert.Pre_finite_no_zero_by_zero.fn x β
      = andi (cmpf .olt (Host.absf x) (broadcastInDim S16x257x8000 ![] bcast_S_S16x257x8000 (constant S_ .f32 0x7F800000#32)))
        (ori (cmpf .une x (broadcastInDim S16x257x8000 ![] bcast_S_S16x257x8000 (constant S_ .f32 0x00000000#32)))
          (broadcastInDim S16x257x8000 ![0, 1, 2] bcast_S16x1x8000_S16x257x8000_0_1_2
            (cmpf .une (denoms x β) (broadcastInDim S16x1x8000 ![] bcast_S_S16x1x8000 (constant S_ .f32 0x00000000#32))))) := rfl

/-- The float constant infinity. -/
theorem ofBits_inf : Ideal.ofBits .f32 0x7F800000#32 = ⊤ := by
  simp [Ideal.ofBits, Ideal.ieee]

/-- A conjunction of one bit with a disjunction of two, read back as propositions. -/
theorem of_bits (p q r : Prop) [Decidable p] [Decidable q] [Decidable r]
    (h : IntOp.andi (BitVec.ofBool (decide p)) (IntOp.ori (BitVec.ofBool (decide q)) (BitVec.ofBool (decide r))) = 1#1) :
    p ∧ (q ∨ r) := by
  by_cases hp : p <;> by_cases hq : q <;> by_cases hr : r <;> simp_all [IntOp.andi, IntOp.ori]

/-- An extended real whose absolute value is below infinity is a real number. -/
theorem real_of_abs_lt (x : EReal) (h : max x (-x) < ⊤) : ∃ r : ℝ, x = r := by
  induction x with
  | bot => simp at h
  | top => simp at h
  | coe r => exact ⟨r, rfl⟩

/-- The precondition at an element: the magnitude is a real number, and it is not zero or the denominator it is divided by is not. -/
theorem at_element (x : FVec Ideal S16x257x8000 .f32) (β : FVec Ideal S1 .f32)
    (h : Cert.Pre_finite_no_zero_by_zero.fn x β = fun _ => 1#1) (b : Fin 16) (f : Fin 257) (t : Fin 8000) :
    (∃ r : ℝ, x (ix3 b f t) = r) ∧ (x (ix3 b f t) ≠ 0 ∨ denoms x β (ix3 b 0 t) ≠ 0) := by
  have e := congrFun h (ix3 b f t)
  rw [steps] at e
  pointwise at e
  rw [ofBits_inf] at e
  obtain ⟨h1, h2⟩ := of_bits _ _ _ e
  exact ⟨real_of_abs_lt _ h1, h2⟩

/-- Under the precondition every band sum is a real number. -/
theorem bandSum_real (x : FVec Ideal S16x257x8000 .f32) (β : FVec Ideal S1 .f32)
    (h : Cert.Pre_finite_no_zero_by_zero.fn x β = fun _ => 1#1) (b : Fin 16) (n : ℕ) : ∃ r : ℝ, bandSum x b n = r := by
  unfold bandSum
  split
  · exact WindowSum.sum_real _ _ fun f => (at_element x β h b f _).1
  · exact ⟨0, rfl⟩

end Cert.Precondition

end
-- ==== Proof.Equation.lean ====
/-
  The equation: under the precondition the kernel's two result arrays are the reference's.
-/
module

public import proofs.«01_k».proof.Proof.Arrays
public import proofs.«01_k».proof.Proof.Precondition

@[expose] public section

set_option maxRecDepth 16384

noncomputable section

namespace Cert.Equation

open Idealize.ShloMosaic Idealize.ShloMosaic.TcCoe Idealize.ShloMosaic.Pointwise Cert.KernelIdeal Cert.Spec

variable (m : (ℓ : Loc nD τ sig) → Buf (Elt Ideal) ℓ) (c : Dev nD)

/-- The precondition on device `c`'s arguments. -/
abbrev Holds : Prop :=
  Cert.Pre_finite_no_zero_by_zero.fn (F := Ideal) (m ((c : Thread nD τ).loc main_arg0)) (m ((c : Thread nD τ).loc main_arg1))
    = fun _ => 1#1

/-- The means agree: the kernel's sum over the window is the difference of the reference's two running sums. -/
theorem means_eq (h : Holds m c) :
    Arrays.means m c = ReferenceIdeal.Read.means (m ((c : Thread nD τ).loc main_arg0)) (m ((c : Thread nD τ).loc main_arg1)) := by
  funext i
  have hi : (i : S16x1x8000.Idx) = ix3 (i 0) 0 (i 2) := by
    funext a
    match a with
    | ⟨0, _⟩ => rfl
    | ⟨1, _⟩ => exact Subsingleton.elim (α := Fin 1) _ _
    | ⟨2, _⟩ => rfl
  exact ((congrArg _ hi).trans (ReferenceIdeal.Read.means_at _ _ (i 0) (i 2) (Precondition.bandSum_real _ _ h (i 0)))).symm

/-- The normalised magnitudes agree: the kernel multiplies by the reciprocal of the denominator by which the reference
    divides. -/
theorem norms_eq (h : Holds m c) :
    Arrays.norms m c = ReferenceIdeal.Read.norms (m ((c : Thread nD τ).loc main_arg0)) (m ((c : Thread nD τ).loc main_arg1)) := by
  funext i
  have hi : (i : S16x257x8000.Idx) = ix3 (i 0) (i 1) (i 2) := by
    funext a
    match a with
    | ⟨0, _⟩ => rfl
    | ⟨1, _⟩ => rfl
    | ⟨2, _⟩ => rfl
  refine Eq.trans ?_ ((congrArg _ hi).trans (ReferenceIdeal.Read.norms_at _ _ (i 0) (i 1) (i 2))).symm
  have hz := (Precondition.at_element _ _ h (i 0) (i 1) (i 2)).2
  have hd := (ReferenceIdeal.Read.denoms_at (m ((c : Thread nD τ).loc main_arg0)) (m ((c : Thread nD τ).loc main_arg1)) (i 0) (i 2)).trans
    (congrArg (· + eps) (ReferenceIdeal.Read.means_at _ _ (i 0) (i 2) (Precondition.bandSum_real _ _ h (i 0))))
  rw [← mul_recip _ _ hz, hd]
  exact congrArg (· * _) (congrArg (Arrays.mag m c) hi)

end Cert.Equation

end
-- ==== Proof.lean ====
/-
  The claims: each program runs, leaves its arguments as they were and every semaphore counter at zero; the idealised kernel
  is the kernel's own text; and under the precondition the kernel's two results are the reference's.
-/
module

public import proofs.«01_k».proof.Defs
public import proofs.«01_k».proof.Proof.Equation
public import proofs.«01_k».proof.Proof.Gen.Kernel.Frame
public import Idealize.ShloMosaic.Lib.Quiescent

@[expose] public section

noncomputable section

namespace Cert.Proof

open Idealize.ShloMosaic Idealize.ShloMosaic.TcCoe Idealize.SL.Sem

/-- The kernel on words runs and leaves its arguments and the counters alone. -/
theorem kernel_frame : Cert.quiescent_Kernel := fun m ρ _ => Cert.Kernel.Gen.frame m ρ

/-- The kernel on extended reals likewise. -/
theorem ideal_frame : Cert.quiescent_KernelIdeal := fun m ρ _ => Cert.KernelIdeal.Gen.frame m ρ

/-- The reference on extended reals likewise: it has no semaphores at all. -/
theorem reference_frame : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Read.run m ρ)

/-- Under the precondition both programs end with the same normalised magnitudes and the same means. -/
theorem results_agree : Cert.algebraic_KernelIdeal_ReferenceIdeal_pre_finite_no_zero_by_zero := fun m ρ m' ρ' hpre hargs =>
  ⟨Cert.KernelIdeal.Arrays.norms m, Cert.KernelIdeal.Arrays.means m, Cert.KernelIdeal.Arrays.run m ρ,
    (θ_run Cert.ReferenceIdeal.defs _ _).mono
      (fun r h c => by
        obtain ⟨hn, hm, hrest⟩ := h c
        rw [(hargs c).1, (hargs c).2] at hn hm
        exact ⟨hn.trans (Equation.norms_eq m c (hpre c)).symm, hm.trans (Equation.means_eq m c (hpre c)).symm, hrest⟩)
      (Cert.ReferenceIdeal.Read.run m' ρ')⟩

/-- All the claims together. -/
theorem claim : Cert.Claim :=
  ⟨Cert.Kernel.Gen.facts, Cert.KernelIdeal.Gen.facts, Cert.ReferenceIdeal.Gen.facts, Cert.Precondition.facts,
    kernel_frame, ideal_frame, fun m ρ _ => ideal_frame m ρ trivial, reference_frame, fun m ρ _ => reference_frame m ρ trivial,
    trivial, results_agree⟩

end Cert.Proof

end
